-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform_and_untied [hPre_uniform_and_untied : Cert.Pre_uniform_and_untied.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_and_untied [hPre_uniform_and_untied : Cert.Pre_uniform_and_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_uniform_and_untied [hKernelIdeal : Cert.KernelIdeal.Facts] [hPre_uniform_and_untied : Cert.Pre_uniform_and_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_and_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_uniform_and_untied [hReferenceIdeal : Cert.ReferenceIdeal.Facts] [hPre_uniform_and_untied : Cert.Pre_uniform_and_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_and_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_uniform_and_untied [hKernelIdeal : Cert.KernelIdeal.Facts] [hReferenceIdeal : Cert.ReferenceIdeal.Facts] [hPre_uniform_and_untied : Cert.Pre_uniform_and_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_and_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_uniform_and_untied : Cert.Pre_uniform_and_untied.Facts),
    quiescent_Kernel (hKernel := hKernel)
    ∧ quiescent_KernelIdeal (hKernelIdeal := hKernelIdeal)
    ∧ quiescent_KernelIdeal_pre_uniform_and_untied (hKernelIdeal := hKernelIdeal) (hPre_uniform_and_untied := hPre_uniform_and_untied)
    ∧ quiescent_ReferenceIdeal (hReferenceIdeal := hReferenceIdeal)
    ∧ quiescent_ReferenceIdeal_pre_uniform_and_untied (hReferenceIdeal := hReferenceIdeal) (hPre_uniform_and_untied := hPre_uniform_and_untied)
    ∧ preserves_Kernel_KernelIdeal
    ∧ algebraic_KernelIdeal_ReferenceIdeal_pre_uniform_and_untied (hKernelIdeal := hKernelIdeal) (hReferenceIdeal := hReferenceIdeal) (hPre_uniform_and_untied := hPre_uniform_and_untied)
-- ==== Pre_uniform_and_untied.lean ====
abbrev S65536x128 : Shape := ⟨2, ![65536, 128]⟩
abbrev S128x128 : Shape := ⟨2, ![128, 128]⟩
abbrev S8 : Shape := ⟨1, ![8]⟩
abbrev S1 : Shape := ⟨1, ![1]⟩
abbrev S_ : Shape := ⟨0, ![]⟩
abbrev S65536 : Shape := ⟨1, ![65536]⟩
abbrev S65536x1 : Shape := ⟨2, ![65536, 1]⟩
abbrev S65536x128x1 : Shape := ⟨3, ![65536, 128, 1]⟩
abbrev S1x1x8 : Shape := ⟨3, ![1, 1, 8]⟩
abbrev S65536x128x8 : Shape := ⟨3, ![65536, 128, 8]⟩

class Facts : Prop where
  slices_S8_S1_1 : S8.Slices ![1] S1
  shapeCasts_S1_S_ : S1.ShapeCasts S_
  slices_S8_S1_0 : S8.Slices ![0] S1
  bcast_S_S8 : S_.BroadcastsInDim S8 (![] : Fin 0 → Fin S8.rank)
  reducesTo_S8_S_d0 : S8.ReducesTo [0] S_
  h_S_ : 0 < S_.numel
  reducesTo_S65536x128_S65536_d1 : S65536x128.ReducesTo [1] S65536
  bcast_S65536_S65536x1_0 : S65536.BroadcastsInDim S65536x1 (![0] : Fin 1 → Fin S65536x1.rank)
  bcast_S65536x1_S65536x128_0_1 : S65536x1.BroadcastsInDim S65536x128 (![0, 1] : Fin 2 → Fin S65536x128.rank)
  transposes_S128x128_S128x128_1_0 : S128x128.Transposes [1, 0] S128x128
  bcast_S65536x128_S65536x128x1_0_1 : S65536x128.BroadcastsInDim S65536x128x1 (![0, 1] : Fin 2 → Fin S65536x128x1.rank)
  bcast_S8_S1x1x8_2 : S8.BroadcastsInDim S1x1x8 (![2] : Fin 1 → Fin S1x1x8.rank)
  bcast_S65536x128x1_S65536x128x8_0_1_2 : S65536x128x1.BroadcastsInDim S65536x128x8 (![0, 1, 2] : Fin 3 → Fin S65536x128x8.rank)
  bcast_S1x1x8_S65536x128x8_0_1_2 : S1x1x8.BroadcastsInDim S65536x128x8 (![0, 1, 2] : Fin 3 → Fin S65536x128x8.rank)
  reducesTo_S65536x128x8_S65536x128_d2 : S65536x128x8.ReducesTo [2] S65536x128
  natLt_1_32 : 1 < 32
  bcast_S_S65536x128 : S_.BroadcastsInDim S65536x128 (![] : Fin 0 → Fin S65536x128.rank)
  dot_S65536x128_S128x128_S65536x128_1_0_0_1_n_n_wf : DotDims.WF S65536x128 S128x128 S65536x128 [1] [0] [0] [1] [] []

variable [Facts]

def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def fn_norm {F : FTy → Type} [FloatOps F] (arg0 : FVec F S65536x128 .f32) : FVec F S65536x1 .f32 :=
  let v0 : FVec F S65536x128 .f32 := mulf arg0 arg0
  let cst : FVec F S_ .f32 := constant S_ .f32 0x00000000#32
  let v1 : FVec F S65536 .f32 := (fun x v => Host.reduceAdd x v reducesTo_S65536x128_S65536_d1 h_S_) v0 cst
  let v2 : FVec F S65536x1 .f32 := broadcastInDim S65536x1 ![0] bcast_S65536_S65536x1_0 v1
  let v3 : FVec F S65536x1 .f32 := Host.sqrt v2
  v3

def fn_part2 {F : FTy → Type} [FloatOps F] (main_v36 : IVec S65536x128 1) (main_v39 : IVec S65536x128 1) (main_v40 : IVec S65536x128 1) : IVec S65536x128 1 :=
  let main_v41 : IVec S65536x128 1 := andi main_v40 main_v39
  let main_v42 : IVec S65536x128 1 := andi main_v41 main_v36
  main_v42

def fn_part1 {F : FTy → Type} [FloatOps F] (main_arg0 : FVec F S65536x128 .f32) (main_arg1 : FVec F S128x128 .f32) (main_arg2 : FVec F S8 .f32) (main_v17 : IVec S_ 1) (main_v20 : FVec F S65536x128 .f32) : IVec S65536x128 1 :=
  let main_v21 : FVec F S128x128 .f32 := (transpose S128x128 [1, 0] · transposes_S128x128_S128x128_1_0) main_arg1
  let main_v22 : FVec F S65536x128 .f32 := (fun l r => Host.dotGeneral dot_S65536x128_S128x128_S65536x128_1_0_0_1_n_n none l r) main_v20 main_v21
  let main_v23 : FVec F S65536x128x1 .f32 := broadcastInDim S65536x128x1 ![0, 1] bcast_S65536x128_S65536x128x1_0_1 main_v22
  let main_v24 : FVec F S1x1x8 .f32 := broadcastInDim S1x1x8 ![2] bcast_S8_S1x1x8_2 main_arg2
  let main_v25 : FVec F S65536x128x8 .f32 := broadcastInDim S65536x128x8 ![0, 1, 2] bcast_S65536x128x1_S65536x128x8_0_1_2 main_v23
  let main_v26 : FVec F S65536x128x8 .f32 := broadcastInDim S65536x128x8 ![0, 1, 2] bcast_S1x1x8_S65536x128x8_0_1_2 main_v24
  let main_v27 : FVec F S65536x128x8 .f32 := subf main_v25 main_v26
  let main_v28 : FVec F S65536x128x8 .f32 := Host.absf main_v27
  let main_cst_1 : FVec F S_ .f32 := constant S_ .f32 0x7F800000#32
  let main_v29 : FVec F S65536x128 .f32 := (fun x v => Host.reduce FloatOps.minimumf x v reducesTo_S65536x128x8_S65536x128_d2 h_S_) main_v28 main_cst_1
  let main_v30 : FVec F S65536x128x1 .f32 := broadcastInDim S65536x128x1 ![0, 1] bcast_S65536x128_S65536x128x1_0_1 main_v29
  let main_v31 : FVec F S65536x128x8 .f32 := broadcastInDim S65536x128x8 ![0, 1, 2] bcast_S65536x128x1_S65536x128x8_0_1_2 main_v30
  let main_v32 : IVec S65536x128x8 1 := cmpf .oeq main_v28 main_v31
  let main_v33 : IVec S65536x128x8 32 := (extui 32 · natLt_1_32) main_v32
  let main_c_2 : IVec S_ 32 := constantI S_ 32 0#32
  let main_v34 : IVec S65536x128 32 := (fun x v => Host.reduce IntOp.addi x v reducesTo_S65536x128x8_S65536x128_d2 h_S_) main_v33 main_c_2
  let main_c_3 : IVec S_ 32 := constantI S_ 32 1#32
  let main_v35 : IVec S65536x128 32 := broadcastInDim S65536x128 ![] bcast_S_S65536x128 main_c_3
  let main_v36 : IVec S65536x128 1 := cmpi .eq main_v34 main_v35
  let main_v37 : FVec F S65536x128 .f32 := Host.absf main_arg0
  let main_cst_4 : FVec F S_ .f32 := constant S_ .f32 0x7F800000#32
  let main_v38 : FVec F S65536x128 .f32 := broadcastInDim S65536x128 ![] bcast_S_S65536x128 main_cst_4
  let main_v39 : IVec S65536x128 1 := cmpf .olt main_v37 main_v38
  let main_v40 : IVec S65536x128 1 := broadcastInDim S65536x128 ![] bcast_S_S65536x128 main_v17
  fn_part2 (F := F) main_v36 main_v39 main_v40

def fn {F : FTy → Type} [FloatOps F] (main_arg0 : FVec F S65536x128 .f32) (main_arg1 : FVec F S128x128 .f32) (main_arg2 : FVec F S8 .f32) : IVec S65536x128 1 :=
  let main_v0 : FVec F S1 .f32 := (extractStridedSlice S1 ![1] · slices_S8_S1_1) main_arg2
  let main_v1 : FVec F S_ .f32 := shapeCast S_ main_v0 shapeCasts_S1_S_
  let main_v2 : FVec F S1 .f32 := (extractStridedSlice S1 ![0] · slices_S8_S1_0) main_arg2
  let main_v3 : FVec F S_ .f32 := shapeCast S_ main_v2 shapeCasts_S1_S_
  let main_v4 : FVec F S_ .f32 := subf main_v1 main_v3
  let main_cst : FVec F S_ .f32 := constant S_ .f32 0x00000000#32
  let main_v5 : IVec S_ 1 := cmpf .ogt main_v4 main_cst
  let main_cst_0 : FVec F S_ .f32 := constant S_ .f32 0x7F800000#32
  let main_v6 : IVec S_ 1 := cmpf .olt main_v4 main_cst_0
  let main_v7 : IVec S_ 1 := andi main_v5 main_v6
  let main_v8 : FVec F S1 .f32 := (extractStridedSlice S1 ![0] · slices_S8_S1_0) main_arg2
  let main_v9 : FVec F S_ .f32 := shapeCast S_ main_v8 shapeCasts_S1_S_
  let main_v10 : FVec F S8 .f32 := sitofp .f32 (iotaInDim S8 32 0)
  let main_v11 : FVec F S8 .f32 := broadcastInDim S8 ![] bcast_S_S8 main_v4
  let main_v12 : FVec F S8 .f32 := mulf main_v10 main_v11
  let main_v13 : FVec F S8 .f32 := broadcastInDim S8 ![] bcast_S_S8 main_v9
  let main_v14 : FVec F S8 .f32 := addf main_v13 main_v12
  let main_v15 : IVec S8 1 := cmpf .oeq main_arg2 main_v14
  let main_c : IVec S_ 1 := constantI S_ 1 1#1
  let main_v16 : IVec S_ 1 := (fun x v => Host.reduce IntOp.andi x v reducesTo_S8_S_d0 h_S_) main_v15 main_c
  let main_v17 : IVec S_ 1 := andi main_v7 main_v16
  let main_v18 : FVec F S65536x1 .f32 := fn_norm (F := F) main_arg0
  let main_v19 : FVec F S65536x128 .f32 := broadcastInDim S65536x128 ![0, 1] bcast_S65536x1_S65536x128_0_1 main_v18
  let main_v20 : FVec F S65536x128 .f32 := Host.divf main_arg0 main_v19
  fn_part1 (F := F) main_arg0 main_arg1 main_arg2 main_v17 main_v20
-- ==== Kernel.lean ====
abbrev S65536x128 : Shape := ⟨2, ![65536, 128]⟩
abbrev S128x128 : Shape := ⟨2, ![128, 128]⟩
abbrev S8 : Shape := ⟨1, ![8]⟩
abbrev S1 : Shape := ⟨1, ![1]⟩
abbrev S_ : Shape := ⟨0, ![]⟩
abbrev S4 : Shape := ⟨1, ![4]⟩
abbrev S16384x128 : Shape := ⟨2, ![16384, 128]⟩
abbrev S16384 : Shape := ⟨1, ![16384]⟩
abbrev S16384x1 : Shape := ⟨2, ![16384, 1]⟩

abbrev nBuf : Space → Nat
  | .hbm => 19
  | .vmem => 5
  | .smem => 1
  | _ => 0

abbrev bufTy : (tb : Table) → Fin (tcTables nBuf tb) → BufTy
  | .hbm, ⟨0, _⟩ => ⟨S65536x128, .f32⟩
  | .hbm, ⟨1, _⟩ => ⟨S128x128, .f32⟩
  | .hbm, ⟨2, _⟩ => ⟨S8, .f32⟩
  | .hbm, ⟨3, _⟩ => ⟨S1, .f32⟩
  | .hbm, ⟨4, _⟩ => ⟨S_, .f32⟩
  | .hbm, ⟨5, _⟩ => ⟨S1, .f32⟩
  | .hbm, ⟨6, _⟩ => ⟨S_, .f32⟩
  | .hbm, ⟨7, _⟩ => ⟨S1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S1, .f32⟩
  | .hbm, ⟨15, _⟩ => ⟨S1, .f32⟩
  | .hbm, ⟨16, _⟩ => ⟨S1, .f32⟩
  | .hbm, ⟨17, _⟩ => ⟨S4, .f32⟩
  | .hbm, ⟨18, _⟩ => ⟨S65536x128, .f32⟩
  | .local _ .vmem, ⟨0, _⟩ => ⟨S16384x128, .f32⟩
  | .local _ .vmem, ⟨1, _⟩ => ⟨S16384x128, .f32⟩
  | .local _ .vmem, ⟨2, _⟩ => ⟨S128x128, .f32⟩
  | .local _ .vmem, ⟨3, _⟩ => ⟨S16384x128, .f32⟩
  | .local _ .vmem, ⟨4, _⟩ => ⟨S16384x128, .f32⟩
  | .local _ .smem, ⟨0, _⟩ => ⟨S4, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S65536x128 : Shape := ⟨2, ![65536, 128]⟩
abbrev S128x128 : Shape := ⟨2, ![128, 128]⟩
abbrev S8 : Shape := ⟨1, ![8]⟩
abbrev S_ : Shape := ⟨0, ![]⟩
abbrev S65536 : Shape := ⟨1, ![65536]⟩
abbrev S65536x1 : Shape := ⟨2, ![65536, 1]⟩
abbrev S65536x128x1 : Shape := ⟨3, ![65536, 128, 1]⟩
abbrev S1x1x8 : Shape := ⟨3, ![1, 1, 8]⟩
abbrev S65536x128x8 : Shape := ⟨3, ![65536, 128, 8]⟩
abbrev S1 : Shape := ⟨1, ![1]⟩
abbrev S1x1x1 : Shape := ⟨3, ![1, 1, 1]⟩

abbrev nBuf : Space → Nat
  | .hbm => 69
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S128x128, .f32⟩
  | .hbm, ⟨2, _⟩ => ⟨S8, .f32⟩
  | .hbm, ⟨3, _⟩ => ⟨S65536x128, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S65536x1, .f32⟩
  | .hbm, ⟨8, _⟩ => ⟨S65536x128, .f32⟩
  | .hbm, ⟨9, _⟩ => ⟨S65536x128, .f32⟩
  | .hbm, ⟨10, _⟩ => ⟨S128x128, .f32⟩
  | .hbm, ⟨11, _⟩ => ⟨S65536x128, .f32⟩
  | .hbm, ⟨12, _⟩ => ⟨S65536x128x1, .f32⟩
  | .hbm, ⟨13, _⟩ => ⟨S1x1x8, .f32⟩
  | .hbm, ⟨14, _⟩ => ⟨S65536x128x8, .f32⟩
  | .hbm, ⟨15, _⟩ => ⟨S65536x128x8, .f32⟩
  | .hbm, ⟨16, _⟩ => ⟨S65536x128x8, .f32⟩
  | .hbm, ⟨17, _⟩ => ⟨S65536x128x8, .f32⟩
  | .hbm, ⟨18, _⟩ => ⟨S65536x128x8, .i32⟩
  | .hbm, ⟨19, _⟩ => ⟨S_, .f32⟩
  | .hbm, ⟨20, _⟩ => ⟨S_, .i32⟩
  | .hbm, ⟨21, _⟩ => ⟨S65536x128, .f32⟩
  | .hbm, ⟨22, _⟩ => ⟨S65536x128, .i32⟩
  | .hbm, ⟨23, _⟩ => ⟨S_, .i32⟩
  | .hbm, ⟨24, _⟩ => ⟨S65536x128, .i32⟩
  | .hbm, ⟨25, _⟩ => ⟨S65536x128, .i1⟩
  | .hbm, ⟨26, _⟩ => ⟨S_, .i32⟩
  | .hbm, ⟨27, _⟩ => ⟨S65536x128, .i32⟩
  | .hbm, ⟨28, _⟩ => ⟨S65536x128, .i32⟩
  | .hbm, ⟨29, _⟩ => ⟨S65536x128, .i32⟩
  | .hbm, ⟨30, _⟩ => ⟨S65536x128x1, .i32⟩
  | .hbm, ⟨31, _⟩ => ⟨S1, .i32⟩
  | .hbm, ⟨32, _⟩ => ⟨S_, .i32⟩
  | .hbm, ⟨33, _⟩ => ⟨S65536x128x1, .i32⟩
  | .hbm, ⟨34, _⟩ => ⟨S65536x128x1, .i1⟩
  | .hbm, ⟨35, _⟩ => ⟨S1x1x1, .i32⟩
  | .hbm, ⟨36, _⟩ => ⟨S65536x128x1, .i32⟩
  | .hbm, ⟨37, _⟩ => ⟨S65536x128x1, .i1⟩
  | .hbm, ⟨38, _⟩ => ⟨S65536x128x1, .i1⟩
  | .hbm, ⟨39, _⟩ => ⟨S_, .i1⟩
  | .hbm, ⟨40, _⟩ => ⟨S65536x128, .i1⟩
  | .hbm, ⟨41, _⟩ => ⟨S65536x128, .f32⟩
  | .hbm, ⟨42, _⟩ => ⟨S_, .f32⟩
  | .hbm, ⟨43, _⟩ => ⟨S65536x128, .f32⟩
  | .hbm, ⟨44, _⟩ => ⟨S65536x128, .f32⟩
  | .hbm, ⟨45, _⟩ => ⟨S65536x128, .f32⟩
  | .hbm, ⟨46, _⟩ => ⟨S_, .f32⟩
  | .hbm, ⟨47, _⟩ => ⟨S65536x128, .f32⟩
  | .hbm, ⟨48, _⟩ => ⟨S65536x128, .i1⟩
  | .hbm, ⟨49, _⟩ => ⟨S65536x128, .f32⟩
  | .hbm, ⟨50, _⟩ => ⟨S_, .f32⟩
  | .hbm, ⟨51, _⟩ => ⟨S65536x128, .f32⟩
  | .hbm, ⟨52, _⟩ => ⟨S65536x128, .f32⟩
  | .hbm, ⟨53, _⟩ => ⟨S_, .f32⟩
  | .hbm, ⟨54, _⟩ => ⟨S65536x128, .f32⟩
  | .hbm, ⟨55, _⟩ => ⟨S65536x128, .f32⟩
  | .hbm, ⟨56, _⟩ => ⟨S65536x128, .f32⟩
  | .hbm, ⟨57, _⟩ => ⟨S_, .f32⟩
  | .hbm, ⟨58, _⟩ => ⟨S65536, .f32⟩
  | .hbm, ⟨59, _⟩ => ⟨S_, .f32⟩
  | .hbm, ⟨60, _⟩ => ⟨S65536, .f32⟩
  | .hbm, ⟨61, _⟩ => ⟨S65536, .f32⟩
  | .hbm, ⟨62, _⟩ => ⟨S65536x1, .f32⟩
  | .hbm, ⟨63, _⟩ => ⟨S65536x128, .f32⟩
  | .hbm, ⟨64, _⟩ => ⟨S65536x128, .f32⟩
  | .hbm, ⟨65, _⟩ => ⟨S65536x128, .f32⟩
  | .hbm, ⟨66, _⟩ => ⟨S65536x128, .f32⟩
  | .hbm, ⟨67, _⟩ => ⟨S65536x128, .f32⟩
  | .hbm, ⟨68, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call1_v0 : Ref sig .tc := ⟨.hbm, 18, rfl⟩
abbrev main_call1_cst : Ref sig .tc := ⟨.hbm, 19, rfl⟩
abbrev main_call1_c : Ref sig .tc := ⟨.hbm, 20, rfl⟩
abbrev main_call1_v1_0 : Ref sig .tc := ⟨.hbm, 21, rfl⟩
abbrev main_v11 : Ref sig .tc := ⟨.hbm, 22, rfl⟩
abbrev main_call2_c : Ref sig .tc := ⟨.hbm, 23, rfl⟩
abbrev main_call2_v0 : Ref sig .tc := ⟨.hbm, 24, rfl⟩
abbrev main_call2_v1 : Ref sig .tc := ⟨.hbm, 25, rfl⟩
abbrev main_call2_c_0 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_v5 : Ref sig .tc := ⟨.hbm, 30, rfl⟩
abbrev main_call2_c_1 : Ref sig .tc := ⟨.hbm, 31, rfl⟩
abbrev main_call2_c_2 : Ref sig .tc := ⟨.hbm, 32, rfl⟩
abbrev main_call2_v6 : Ref sig .tc := ⟨.hbm, 33, rfl⟩
abbrev main_call2_v7 : Ref sig .tc := ⟨.hbm, 34, rfl⟩
abbrev main_call2_v8 : Ref sig .tc := ⟨.hbm, 35, rfl⟩
abbrev main_call2_v9 : Ref sig .tc := ⟨.hbm, 36, rfl⟩
abbrev main_call2_v10 : Ref sig .tc := ⟨.hbm, 37, rfl⟩
abbrev main_call2_v11 : Ref sig .tc := ⟨.hbm, 38, rfl⟩
abbrev main_call2_c_3 : Ref sig .tc := ⟨.hbm, 39, rfl⟩
abbrev main_call2_v12 : Ref sig .tc := ⟨.hbm, 40, rfl⟩
abbrev main_call2_v13 : Ref sig .tc := ⟨.hbm, 41, rfl⟩
abbrev main_call2_cst : Ref sig .tc := ⟨.hbm, 42, rfl⟩
abbrev main_call2_v14 : Ref sig .tc := ⟨.hbm, 43, rfl⟩
abbrev main_v12 : Ref sig .tc := ⟨.hbm, 44, rfl⟩
abbrev main_v13 : Ref sig .tc := ⟨.hbm, 45, rfl⟩
abbrev main_cst : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_cst_0 : Ref sig .tc := ⟨.hbm, 50, rfl⟩
abbrev main_v17 : Ref sig .tc := ⟨.hbm, 51, rfl⟩
abbrev main_v18 : Ref sig .tc := ⟨.hbm, 52, rfl⟩
abbrev main_cst_1 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_cst_2 : Ref sig .tc := ⟨.hbm, 57, rfl⟩
abbrev main_v22 : Ref sig .tc := ⟨.hbm, 58, rfl⟩
abbrev main_cst_3 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩

abbrev nD : Nat := 1
abbrev τ : Topo := Topo.v7x

variable {F : FTy → Type} [FloatOps F]
-- ==== Proof.Nearest.lean ====
module

public import Idealize.ShloMosaic.PureOps.Ideal
public import Idealize.ShloMosaic.PureOps.Ideal.Laws

@[expose] public section

/-! The mathematics of one coordinate and of one row, over the extended reals.

A codebook is uniform when its eight entries are `c₀ + k·s` for a positive finite step `s`. For a coordinate `y`
with one nearest entry, rounding `(y - c₀)/s` and clamping it to `0 … 7` gives that entry's position
(`clamp_round_eq`), so the two ways of quantizing a row — by rounding, or by searching the nearest entry — agree. -/

noncomputable section

namespace Cert.Proof

open Idealize.ShloMosaic

/-- The absolute value on the extended reals. -/
def eabs (z : EReal) : EReal := max z (-z)

/-- On the finite it is the absolute value of the reals. -/
theorem eabs_coe (r : ℝ) : eabs (r : EReal) = ((|r| : ℝ) : EReal) := by
  unfold eabs
  rw [← EReal.coe_neg, abs_eq_max_neg]
  exact (EReal.coe_strictMono.monotone.map_max).symm

/-- A codebook of eight values with a positive, finite step, all of them `c₀ + k·s`. -/
structure Uniform (c : Fin 8 → EReal) : Prop where
  pos : 0 < c 1 - c 0
  fin : c 1 - c 0 < ⊤
  eq : ∀ k : Fin 8, c k = c 0 + ((k.val : ℝ) : EReal) * (c 1 - c 0)

/-- Entry `k` is nearer to `y` than every other entry. -/
def Nearest (c : Fin 8 → EReal) (y : EReal) (k : Fin 8) : Prop :=
  ∀ k', k' ≠ k → eabs (y - c k) < eabs (y - c k')

/-- A uniform codebook consists of finite reals. -/
theorem Uniform.reals {c : Fin 8 → EReal} (h : Uniform c) :
    ∃ c₀ s : ℝ, 0 < s ∧ c 0 = (c₀ : EReal) ∧ c 1 - c 0 = (s : EReal) ∧
      ∀ k : Fin 8, c k = ((c₀ + k.val * s : ℝ) : EReal) := by
  obtain ⟨hp, hf, he⟩ := h
  have h0 : ∃ a : ℝ, c 0 = (a : EReal) := by
    induction h : c 0 using EReal.rec with
    | bot =>
      rw [h] at hp hf
      induction h' : c 1 using EReal.rec with
      | bot => rw [h'] at hp; simp at hp
      | coe r => rw [h'] at hf; simp at hf
      | top => rw [h'] at hf; simp at hf
    | coe r => exact ⟨r, rfl⟩
    | top =>
      rw [h] at hp
      simp at hp
  obtain ⟨a, ha⟩ := h0
  have h1 : ∃ b : ℝ, c 1 - c 0 = (b : EReal) :=
    ⟨(c 1 - c 0).toReal, (EReal.coe_toReal hf.ne (ne_of_gt (lt_trans EReal.bot_lt_zero hp))).symm⟩
  obtain ⟨b, hb⟩ := h1
  refine ⟨a, b, ?_, ha, hb, fun k => ?_⟩
  · rw [hb] at hp; exact_mod_cast hp
  · rw [he k, hb, ha]; push_cast; rfl

/-- A coordinate with one nearest entry is a finite real: at an infinity every entry is equally far. -/
theorem Nearest.real {c : Fin 8 → EReal} (hc : Uniform c) {y : EReal} {k : Fin 8} (h : Nearest c y k) :
    ∃ r : ℝ, y = (r : EReal) := by
  obtain ⟨c₀, s, -, -, -, hk⟩ := hc.reals
  obtain ⟨k', hk'⟩ : ∃ k' : Fin 8, k' ≠ k := exists_ne k
  have := h k' hk'
  rw [hk k, hk k'] at this
  induction y using EReal.rec with
  | bot => simp only [EReal.bot_sub] at this; exact absurd this (lt_irrefl _)
  | coe r => exact ⟨r, rfl⟩
  | top => simp only [EReal.top_sub_coe] at this; exact absurd this (lt_irrefl _)

/-- There is at most one nearest entry. -/
theorem Nearest.unique {c : Fin 8 → EReal} {y : EReal} {k k' : Fin 8} (h : Nearest c y k) (h' : Nearest c y k') :
    k = k' := by
  by_contra hne
  exact lt_asymm (h k' (fun e => hne e.symm)) (h' k hne)

/-- A real strictly within a half of an integer rounds to it. -/
theorem roundHalfEven_eq {t : ℝ} {n : ℤ} (h1 : (n : ℝ) - 1 / 2 < t) (h2 : t < n + 1 / 2) :
    Ideal.roundHalfEven t = n := by
  unfold Ideal.roundHalfEven
  by_cases hn : (n : ℝ) ≤ t
  · have hf : ⌊t⌋ = n := Int.floor_eq_iff.2 ⟨hn, by linarith⟩
    simp only [hf]
    rw [if_pos (by linarith)]
  · have hf : ⌊t⌋ = n - 1 := Int.floor_eq_iff.2 ⟨by push_cast; linarith, by push_cast; linarith⟩
    simp only [hf]
    push_cast
    rw [if_neg (by linarith), if_pos (by linarith)]
    ring

/-- A real below a half rounds to at most zero. -/
theorem roundHalfEven_nonpos {t : ℝ} (h : t < 1 / 2) : Ideal.roundHalfEven t ≤ 0 := by
  unfold Ideal.roundHalfEven
  have hf := Int.floor_le t
  have hf' := Int.lt_floor_add_one t
  have h0 : ⌊t⌋ ≤ 0 := Int.lt_add_one_iff.1 (Int.floor_lt.2 (by push_cast; linarith))
  rcases h0.lt_or_eq with h0 | h0
  · dsimp only; split_ifs <;> omega
  · simp only [h0]; push_cast; rw [if_pos (by linarith)]

/-- A real above thirteen halves rounds to at least seven. -/
theorem roundHalfEven_ge_seven {t : ℝ} (h : 13 / 2 < t) : 7 ≤ Ideal.roundHalfEven t := by
  unfold Ideal.roundHalfEven
  have hf := Int.floor_le t
  have hf' := Int.lt_floor_add_one t
  have h0 : 6 ≤ ⌊t⌋ := Int.le_floor.2 (by push_cast; linarith)
  rcases h0.lt_or_eq with h0 | h0
  · dsimp only; split_ifs <;> omega
  · simp only [← h0]; push_cast; rw [if_neg (by linarith), if_pos (by linarith)]

/-- The quantizer's position of a scaled coordinate: round to the nearest integer, then clamp to `0 … 7`. -/
def clampRound (t : EReal) : EReal := min 7 (max 0 (Ideal.liftRound Ideal.roundHalfEven t))

/-- In units of the step, the nearest entry is the nearest position. -/
theorem Nearest.lt {c₀ s y : ℝ} (hs : 0 < s) {c : Fin 8 → EReal} (hc : ∀ k : Fin 8, c k = ((c₀ + k.val * s : ℝ) : EReal))
    {k : Fin 8} (h : Nearest c (y : EReal) k) (k' : Fin 8) (hk : k' ≠ k) :
    |(y - c₀) / s - k.val| < |(y - c₀) / s - k'.val| := by
  have := h k' hk
  rw [hc, hc, ← EReal.coe_sub, ← EReal.coe_sub, eabs_coe, eabs_coe, EReal.coe_lt_coe_iff] at this
  have e : ∀ n : ℝ, |y - (c₀ + n * s)| = |(y - c₀) / s - n| * s := fun n => by
    rw [← abs_of_pos hs, ← abs_mul, abs_of_pos hs]
    congr 1
    rw [sub_mul, div_mul_cancel₀ _ hs.ne']
    ring
  rw [e, e] at this
  exact lt_of_mul_lt_mul_right this hs.le

/-- Rounding and clamping the scaled coordinate gives the position of its nearest entry. -/
theorem clampRound_eq {c₀ s y : ℝ} (hs : 0 < s) {c : Fin 8 → EReal} (hc : ∀ k : Fin 8, c k = ((c₀ + k.val * s : ℝ) : EReal))
    {k : Fin 8} (h : Nearest c (y : EReal) k) :
    clampRound (((y - c₀) / s : ℝ) : EReal) = ((k.val : ℝ) : EReal) := by
  have hl := h.lt hs hc
  generalize (y - c₀) / s = t at hl
  have up : k.val < 7 → t < k.val + 1 / 2 := fun hk => by
    have := hl ⟨k.val + 1, by omega⟩ (by intro e; simpa using congrArg Fin.val e)
    simp only [Nat.cast_add, Nat.cast_one] at this
    by_contra hge
    push Not at hge
    rw [abs_of_nonneg (by linarith)] at this
    rcases abs_cases (t - (k.val + 1)) with ⟨h3, _⟩ | ⟨h3, _⟩ <;> linarith
  have lo : 0 < k.val → (k.val : ℝ) - 1 / 2 < t := fun hk => by
    have := hl ⟨k.val - 1, by omega⟩ (by intro e; have := congrArg Fin.val e; simp only at this; omega)
    simp only [Nat.cast_sub (show 1 ≤ k.val from hk), Nat.cast_one] at this
    by_contra hge
    push Not at hge
    rw [abs_of_nonpos (by linarith)] at this
    rcases abs_cases (t - ((k.val : ℝ) - 1)) with ⟨h3, _⟩ | ⟨h3, _⟩ <;> linarith
  have cast : clampRound (t : EReal) = ((min 7 (max 0 (Ideal.roundHalfEven t)) : ℤ) : ℝ) := by
    unfold clampRound
    rw [Ideal.liftRound_coe]
    have hm := (EReal.coe_strictMono.monotone)
    have h7 : (7 : EReal) = ((7 : ℝ) : EReal) := by norm_cast
    rw [h7, ← EReal.coe_zero, ← hm.map_max, ← hm.map_min]
    congr 1
    push_cast
    rfl
  rw [cast]
  congr 1
  have : min 7 (max 0 (Ideal.roundHalfEven t)) = (k.val : ℤ) := by
    by_cases h0 : k.val = 0
    · have := roundHalfEven_nonpos (t := t) (by have := up (by omega); rw [h0] at this; push_cast at this; linarith)
      omega
    · by_cases h7 : k.val = 7
      · have := roundHalfEven_ge_seven (t := t) (by have := lo (by omega); rw [h7] at this; push_cast at this; linarith)
        omega
      · have := roundHalfEven_eq (t := t) (n := k.val) (by push_cast; exact lo (by omega)) (by push_cast; exact up (by omega))
        have := k.isLt
        omega
  rw [this]
  norm_cast

/-- The coordinate's position as the kernel scales it: `(y - c₀)` times the reciprocal of the step. -/
def scaled (c : Fin 8 → EReal) (y : EReal) : EReal := (y - c 0) * Ideal.div 1 (c 1 - c 0)

/-- What rounding leaves, in units of the step. -/
def remainder (c : Fin 8 → EReal) (y : EReal) : EReal := scaled c y - clampRound (scaled c y)

/-- The kernel's correction of a row: the sum of the remainders' magnitudes, times a 128th of the step. -/
def roundScale (c : Fin 8 → EReal) (y : Fin 128 → EReal) : EReal :=
  (∑ j, eabs (remainder c (y j))) * Ideal.div (c 1 - c 0) 128

/-- A coordinate of a row quantized by rounding: the entry at the rounded position, moved by the row's correction to
    the side its remainder lies on. -/
def roundQuant (c : Fin 8 → EReal) (y : Fin 128 → EReal) (j : Fin 128) : EReal :=
  (c 0 + clampRound (scaled c (y j)) * (c 1 - c 0))
    + if 0 ≤ remainder c (y j) then roundScale c y else 0 - roundScale c y

/-- The reference's correction of a row whose nearest entries are at `n`: the mean magnitude of the residuals. -/
def searchScale (c : Fin 8 → EReal) (y : Fin 128 → EReal) (n : Fin 128 → Fin 8) : EReal :=
  Ideal.div (∑ j, eabs (y j - c (n j))) 128

/-- A coordinate of a row quantized by searching the nearest entry: that entry plus the correction times the
    residual's sign, `2·1 - 1` or `2·0 - 1`. -/
def searchQuant (c : Fin 8 → EReal) (y : Fin 128 → EReal) (n : Fin 128 → Fin 8) (j : Fin 128) : EReal :=
  c (n j) + searchScale c y n * ((if 0 ≤ y j - c (n j) then 1 else 0) * 2 - 1)

/-- A finite sum of reals is a real. -/
theorem sum_coe {ι : Type} [Fintype ι] (f : ι → ℝ) : ∑ j, ((f j : ℝ) : EReal) = ((∑ j, f j : ℝ) : EReal) := by
  classical
  induction (Finset.univ : Finset ι) using Finset.induction_on with
  | empty => simp
  | insert a s ha ih => rw [Finset.sum_insert ha, Finset.sum_insert ha, ih, EReal.coe_add]

/-- The two quantizers agree on a row each of whose coordinates has one nearest entry. -/
theorem roundQuant_eq_searchQuant {c : Fin 8 → EReal} (hc : Uniform c) (y : Fin 128 → EReal) (n : Fin 128 → Fin 8)
    (hn : ∀ j, Nearest c (y j) (n j)) (j : Fin 128) : roundQuant c y j = searchQuant c y n j := by
  obtain ⟨c₀, s, hs, h0, h1, hk⟩ := hc.reals
  choose r hr using fun j => (hn j).real hc
  have hne : s ≠ 0 := hs.ne'
  have hsc : ∀ j, scaled c (y j) = (((r j - c₀) / s : ℝ) : EReal) := fun j => by
    unfold scaled
    rw [hr, h1, h0, Ideal.div_coe hne, one_mul, ← EReal.coe_sub, ← EReal.coe_mul]
    congr 1
    ring
  have hcl : ∀ j, clampRound (scaled c (y j)) = (((n j).val : ℝ) : EReal) := fun j => by
    rw [hsc]; exact clampRound_eq hs hk (by rw [← hr]; exact hn j)
  have hrem : ∀ j, remainder c (y j) = (((r j - c₀) / s - (n j).val : ℝ) : EReal) := fun j => by
    unfold remainder; rw [hcl, hsc, ← EReal.coe_sub]
  have hres : ∀ j, y j - c (n j) = ((((r j - c₀) / s - (n j).val) * s : ℝ) : EReal) := fun j => by
    rw [hr, hk, ← EReal.coe_sub]
    congr 1
    field_simp
    ring
  have h128 : (128 : EReal) = ((128 : ℝ) : EReal) := by norm_cast
  have hS : roundScale c y = (((∑ j, |(r j - c₀) / s - (n j).val|) * (s / 128) : ℝ) : EReal) := by
    unfold roundScale
    simp only [hrem, eabs_coe]
    rw [sum_coe, h1, h128, Ideal.div_coe (by norm_num), ← EReal.coe_mul, ← EReal.coe_mul]
    congr 1
    ring
  have hS' : searchScale c y n = roundScale c y := by
    rw [hS]
    unfold searchScale
    simp only [hres, eabs_coe, abs_mul, abs_of_pos hs]
    rw [sum_coe, h128, Ideal.div_coe (by norm_num), ← EReal.coe_mul, ← Finset.sum_mul]
    congr 1
    ring
  unfold roundQuant searchQuant
  rw [hS', hcl, hrem, hres, h1, h0, hk, hS, ← EReal.coe_mul, ← EReal.coe_add]
  congr 1
  · have e : (0 ≤ ((((r j - c₀) / s - (n j).val : ℝ)) : EReal)) ↔
        0 ≤ (((((r j - c₀) / s - (n j).val) * s : ℝ)) : EReal) := by
      rw [EReal.coe_nonneg, EReal.coe_nonneg]
      exact (mul_nonneg_iff_of_pos_right hs).symm
    by_cases hp : 0 ≤ ((((r j - c₀) / s - (n j).val : ℝ)) : EReal)
    · rw [if_pos hp, if_pos (e.1 hp)]
      have : ((1 : EReal) * 2 - 1) = ((1 : ℝ) : EReal) := by
        rw [one_mul, show (2 : EReal) = ((2 : ℝ) : EReal) by norm_cast, ← EReal.coe_one, ← EReal.coe_sub]; norm_num
      rw [this, ← EReal.coe_mul, mul_one]
    · rw [if_neg hp, if_neg (fun h => hp (e.2 h))]
      have : ((0 : EReal) * 2 - 1) = ((-1 : ℝ) : EReal) := by
        rw [zero_mul, ← EReal.coe_one, ← EReal.coe_zero, ← EReal.coe_sub]; norm_num
      rw [this, ← EReal.coe_mul, ← EReal.coe_zero, ← EReal.coe_sub]
      congr 1
      ring

end Cert.Proof
-- ==== Proof.Block.lean ====
module

public import proofs.«01_k».proof.Proof.Gen.KernelIdeal.Value
public import proofs.«01_k».proof.Proof.Nearest
public import Idealize.ShloMosaic.Lib.Pointwise
public import Idealize.ShloMosaic.Lib.IdealHost

@[expose] public section

/-! What the kernel's body computes of one block of rows, read at one row and one column. -/

set_option maxRecDepth 16384

noncomputable section

namespace Cert.Proof.Block

open Idealize.ShloMosaic Cert.KernelIdeal Cert.KernelIdeal.Gen

variable [Cert.KernelIdeal.Facts]

/-- The word of the constant 128. -/
theorem ofBits_128 : Ideal.ofBits FTy.f32 0x43000000#32 = 128 := by
  simp [Ideal.ofBits, Ideal.ieee]
  rw [← EReal.coe_mul]; norm_num; rfl

/-- The word of the constant seven. -/
theorem ofBits_seven : Ideal.ofBits FTy.f32 0x40E00000#32 = 7 := by
  simp [Ideal.ofBits, Ideal.ieee]
  rw [← EReal.coe_mul]; norm_num; rfl

/-- The sum of the squares of a block's row. -/
def sumSq (x : FVec Ideal S16384x128 .f32) (r : Fin 16384) : EReal := ∑ k : Fin 128, x (ix2 r k) * x (ix2 r k)

/-- A block's row times the reciprocal root of the sum of its squares, against a row of `P`. -/
def rotated (x : FVec Ideal S16384x128 .f32) (P : FVec Ideal S128x128 .f32) (r : Fin 16384) (j : Fin 128) : EReal :=
  ∑ k : Fin 128, x (ix2 r k) * Ideal.rsqrt (sumSq x r) * P (ix2 j k)

theorem pay2_apply (x : FVec Ideal S16384x128 .f32) (r : Fin 16384) : k0_pay2 (F := Ideal) x (ix2 r 0) = sumSq x r := by
  pointwise [k0_pay2]
  rfl

theorem pay3_apply (x : FVec Ideal S16384x128 .f32) (r : Fin 16384) :
    k0_pay3 (F := Ideal) x (ix2 r 0) = Ideal.rsqrt (sumSq x r) := by
  have h := pay2_apply x r
  generalize hn : k0_pay2 (F := Ideal) x = v at h
  pointwise [k0_pay3]
  rw [hn, h]

/-- The block's quantised and corrected coordinates, at a codebook's first entry, step, reciprocal step and last level. -/
theorem pay4_apply (c : Fin 8 → EReal) (x : FVec Ideal S16384x128 .f32) (P : FVec Ideal S128x128 .f32) (r : Fin 16384) (j : Fin 128) :
    k0_pay4 (F := Ideal) (c 0) (c 1 - c 0) (Ideal.div 1 (c 1 - c 0)) (7 : EReal) x P (ix2 r j) = roundQuant c (rotated x P r) j := by
  have h := pay3_apply x r
  generalize hn : k0_pay3 (F := Ideal) x = v at h
  pointwise [k0_pay4]
  rw [hn, h, ofBits_128]
  rfl

/-- An element of the block the body writes. -/
theorem pay1_apply (P : FVec Ideal S128x128 .f32) (s q : FVec Ideal S16384x1 .f32) (z : FVec Ideal S16384x128 .f32)
    (r : Fin 16384) (j : Fin 128) :
    k0_pay1 (F := Ideal) P s q z (constant S16384x128 .f32 0x00000000#32) (ix2 r j)
      = (∑ k : Fin 128, z (ix2 r k) * P (ix2 k j)) * (s (ix2 r 0) * q (ix2 r 0)) := by
  pointwise [k0_pay1]

end Cert.Proof.Block
-- ==== Proof.Scalars.lean ====
module

public import proofs.«01_k».proof.Proof.Gen.KernelIdeal.Value
public import Idealize.ShloMosaic.Lib.Pointwise
public import Idealize.ShloMosaic.Lib.IdealHost
public import Idealize.ShloMosaic.Lib.Claim
public import Idealize.ShloMosaic.Lib.StableHlo.ReadAt
public import proofs.«01_k».proof.Proof.Block

@[expose] public section

/-! The four numbers the kernel is handed beside its arrays: the codebook's first entry, its step, the step's
reciprocal, and the last level. -/

set_option maxRecDepth 16384

noncomputable section

namespace Cert.Proof.Block

open Idealize.ShloMosaic Idealize.ShloMosaic.TcCoe Cert.KernelIdeal Cert.KernelIdeal.Gen Idealize.SL.Sem

variable [Cert.KernelIdeal.Facts]
variable (m : (ℓ : Loc nD τ sig) → Buf (Elt Ideal) ℓ)

/-- The codebook a core is launched with. -/
def book (c : Dev nD) (k : Fin 8) : EReal := (m ((c : Thread nD τ).loc main_arg2) : FVec Ideal S8 .f32) (ix1 k)

/-- The first of the four is the codebook's first entry. -/
theorem scalar0 (c : Dev nD) : (V m c main_v12 : FVec Ideal S4 .f32) (ix1 0) = book m c 0 := by
  unfold V
  after_reads_at
  rw [StableHlo.unary_result']
  after_reads_at
  rfl

/-- The second is the step between the codebook's first two entries. -/
theorem scalar1 (c : Dev nD) : (V m c main_v12 : FVec Ideal S4 .f32) (ix1 1) = book m c 1 - book m c 0 := by
  unfold V
  after_reads_at
  rw [StableHlo.unary_result']
  after_reads_at
  rfl

/-- The third is the step's reciprocal. -/
theorem scalar2 (c : Dev nD) : (V m c main_v12 : FVec Ideal S4 .f32) (ix1 2) = Ideal.div 1 (book m c 1 - book m c 0) := by
  unfold V
  after_reads_at
  rw [StableHlo.unary_result']
  after_reads_at
  rfl

/-- The fourth is seven. -/
theorem scalar3 (c : Dev nD) : (V m c main_v12 : FVec Ideal S4 .f32) (ix1 3) = (7 : EReal) := by
  unfold V
  after_reads_at
  rw [StableHlo.unary_result']
  after_reads_at
  exact ofBits_seven

end Cert.Proof.Block
-- ==== Proof.Array.lean ====
module

public import proofs.«01_k».proof.Proof.Scalars
public import Idealize.ShloMosaic.Lib.Pipeline.ValueKit

@[expose] public section

/-! The array the kernel leaves, element by element. -/

set_option maxRecDepth 16384

noncomputable section

namespace Cert.Proof.Block

open Idealize.ShloMosaic Idealize.ShloMosaic.TcCoe Cert.KernelIdeal Cert.KernelIdeal.Gen Idealize.SL.Sem

variable [Cert.KernelIdeal.Facts]
variable (m : (ℓ : Loc nD τ sig) → Buf (Elt Ideal) ℓ)

/-- The rows a core is launched with. -/
def rows (c : Dev nD) : FVec Ideal S65536x128 .f32 := m ((c : Thread nD τ).loc main_arg0)

/-- The rotation a core is launched with. -/
def rotation (c : Dev nD) : FVec Ideal S128x128 .f32 := m ((c : Thread nD τ).loc main_arg1)

/-- The sum of the squares of a row of the whole array. -/
def rowSumSq (x : FVec Ideal S65536x128 .f32) (i : Fin 65536) : EReal := ∑ k : Fin 128, x (ix2 i k) * x (ix2 i k)

/-- A row of the whole array, scaled and rotated. -/
def rowRotated (x : FVec Ideal S65536x128 .f32) (P : FVec Ideal S128x128 .f32) (i : Fin 65536) (j : Fin 128) : EReal :=
  ∑ k : Fin 128, x (ix2 i k) * Ideal.rsqrt (rowSumSq x i) * P (ix2 j k)

/-- What the kernel leaves at a row and a column. -/
def result (x : FVec Ideal S65536x128 .f32) (P : FVec Ideal S128x128 .f32) (b : Fin 8 → EReal) (i : Fin 65536) (j : Fin 128) : EReal :=
  (∑ k : Fin 128, roundQuant b (rowRotated x P i) k * P (ix2 k j)) * (rowSumSq x i * Ideal.rsqrt (rowSumSq x i))

/-- Every grid point's blocks, by the windows' index maps. -/
theorem idx : ∀ t : Fin grid0.N, win0_0.index t = ![0] ∧ win0_1.index t = ![t.val, 0] ∧ win0_2.index t = ![0, 0] ∧ win0_3.index t = ![t.val, 0] := by
  decide +kernel

/-- The scalars' block is the four scalars. -/
theorem iblk0 (c : Dev nD) (t : Fin cfg0.N) (k : Fin 4) :
    (iblk m c 0 t : FVec Ideal S4 .f32) (ix1 k) = (V m c main_v12 : FVec Ideal S4 .f32) (ix1 k) := by
  blk_ext [iblk, idx t]

/-- Row `r` of block `t` is row `16384 t + r` of the array. -/
theorem iblk1 (c : Dev nD) (t : Fin cfg0.N) (r : Fin 16384) (i : Fin 65536) (hi : i.val = t.val * 16384 + r.val) (k : Fin 128) :
    (iblk m c 1 t : FVec Ideal S16384x128 .f32) (ix2 r k) = rows m c (ix2 i k) := by
  unfold rows
  rw [← V_main_arg0 m c]
  blk_ext [iblk, idx t, hi]

/-- The rotation's block is the rotation. -/
theorem iblk2 (c : Dev nD) (t : Fin cfg0.N) (j k : Fin 128) :
    (iblk m c 2 t : FVec Ideal S128x128 .f32) (ix2 j k) = rotation m c (ix2 j k) := by
  unfold rotation
  rw [← V_main_arg1 m c]
  blk_ext [iblk, idx t]

/-- The kernel leaves `result` of its arguments. -/
theorem array (c : Dev nD) : ((dats m 0 c).arrAt 3 cfg0.N : FVec Ideal S65536x128 .f32)
    = fun y => result (rows m c) (rotation m c) (book m c) (y 0) (y 1) := by
  refine (dats m 0 c).arrAt_eq_of_covers 3 _ (by decide +kernel) fun t hf y => ?_
  blk_simp
  rw [after0_3]
  rw [outsAt0]
  frame_out
  obtain ⟨r, j, rfl⟩ : ∃ (r : Fin 16384) (j : Fin 128), y = (ix2 r j : S16384x128.Idx) := ⟨y 0, y 1, eq_ix2 y⟩
  have e0 : ∀ h, View.ld (iblk m c 0 t) (Rect.unit ![0] ![1] inb_S4_S1_0) (Shape.Idx.first h) = book m c 0 := by
    intro h
    rw [← scalar0 m c, ← iblk0 m c t]
    pointwise
  have e1 : ∀ h, View.ld (iblk m c 0 t) (Rect.unit ![1] ![1] inb_S4_S1_1) (Shape.Idx.first h) = book m c 1 - book m c 0 := by
    intro h
    rw [← scalar1 m c, ← iblk0 m c t]
    pointwise
  have e2 : ∀ h, View.ld (iblk m c 0 t) (Rect.unit ![2] ![1] inb_S4_S1_2) (Shape.Idx.first h) = Ideal.div 1 (book m c 1 - book m c 0) := by
    intro h
    rw [← scalar2 m c, ← iblk0 m c t]
    pointwise
  have e3 : ∀ h, View.ld (iblk m c 0 t) (Rect.unit ![3] ![1] inb_S4_S1_3) (Shape.Idx.first h) = (7 : EReal) := by
    intro h
    rw [← scalar3 m c, ← iblk0 m c t]
    pointwise
  rw [e0, e1, e2, e3]
  obtain ⟨i, hi⟩ : ∃ i : Fin 65536, i = ((View.whole main_v13).slice (win0_3.rect t)).emb (ix2 r j) 0 := ⟨_, rfl⟩
  have hj : ((View.whole main_v13).slice (win0_3.rect t)).emb (ix2 r j) 1 = j := by
    refine Fin.ext ?_
    blk_simp [idx t]
  have hi' : i.val = t.val * 16384 + r.val := by
    rw [hi]
    blk_simp [idx t]
  rw [hj, ← hi]
  have hs : sumSq (iblk m c 1 t) r = rowSumSq (rows m c) i := by
    simp only [sumSq, rowSumSq, iblk1 m c t r i hi']
  have hr : rotated (iblk m c 1 t) (iblk m c 2 t) r = rowRotated (rows m c) (rotation m c) i := by
    funext j
    simp only [rotated, rowRotated, hs, iblk1 m c t r i hi', iblk2 m c t]
  rw [pay1_apply, pay2_apply, pay3_apply, hs]
  simp only [pay4_apply, hr, iblk2 m c t]
  rfl

end Cert.Proof.Block
-- ==== Proof.RefRun.lean ====
module

public import proofs.«01_k».proof.Defs
public import proofs.«01_k».proof.Proof.Gen.ReferenceIdeal
public import Idealize.ShloMosaic.Adequacy
public import Idealize.ShloMosaic.Init
public import Idealize.ShloMosaic.Lib.Claim

@[expose] public section

/-! The reference's run: the array it returns as one term of its three arguments, in named stages. -/

set_option maxRecDepth 16384

noncomputable section

namespace Cert.Proof.Ref

open Idealize.ShloMosaic Idealize.SL.Sem Cert.ReferenceIdeal Cert.ReferenceIdeal.Facts₀ Cert.ReferenceIdeal.Facts

variable [Cert.ReferenceIdeal.Facts]

/-- The Euclidean norm of every row of `x`, as a column. -/
def rowNorm (x : FVec Ideal S65536x128 .f32) : FVec Ideal S65536x1 .f32 :=
  Host.sqrt (broadcastInDim S65536x1 ![0] bcast_S65536_S65536x1_0
    (Host.reduceAdd (mulf x x) (constant S_ .f32 0x00000000#32) reducesTo_S65536x128_S65536_d1 h_S_))

/-- The rows divided by their norms, rotated by the transpose of `P`. -/
def rotated (x : FVec Ideal S65536x128 .f32) (P : FVec Ideal S128x128 .f32) : FVec Ideal S65536x128 .f32 :=
  Host.dotGeneral dot_S65536x128_S128x128_S65536x128_1_0_0_1_n_n none
    (Host.divf x (broadcastInDim S65536x128 ![0, 1] bcast_S65536x1_S65536x128_0_1 (rowNorm x)))
    (transpose S128x128 [1, 0] P transposes_S128x128_S128x128_1_0)

/-- The distance of every coordinate of `y` to every codebook entry. -/
def distance (y : FVec Ideal S65536x128 .f32) (c : FVec Ideal S8 .f32) : FVec Ideal S65536x128x8 .f32 :=
  Host.absf (subf
    (broadcastInDim S65536x128x8 ![0, 1, 2] bcast_S65536x128x1_S65536x128x8_0_1_2
      (broadcastInDim S65536x128x1 ![0, 1] bcast_S65536x128_S65536x128x1_0_1 y))
    (broadcastInDim S65536x128x8 ![0, 1, 2] bcast_S1x1x8_S65536x128x8_0_1_2 (broadcastInDim S1x1x8 ![2] bcast_S8_S1x1x8_2 c)))

/-- The position of the least of the eight distances, for every coordinate. -/
def position (d : FVec Ideal S65536x128x8 .f32) : IVec S65536x128 32 := fun j =>
  (Host.argReduce reducer_argmin_f32_i32 d (iotaInDim S65536x128x8 32 2) (constant S_ .f32 0x7F800000#32 : FVec Ideal S_ .f32)
    (constantI S_ 32 0#32) reducesTo_S65536x128x8_S65536x128_d2 h_S_ j).2

/-- A position as the look-up uses it: a negative one counted from the codebook's end. -/
def wrapped (n : IVec S65536x128 32) : IVec S65536x128x1 32 :=
  broadcastInDim S65536x128x1 ![0, 1] bcast_S65536x128_S65536x128x1_0_1
    (select (cmpi .slt n (broadcastInDim S65536x128 ![] bcast_S_S65536x128 (constantI S_ 32 0#32)))
      (addi n (broadcastInDim S65536x128 ![] bcast_S_S65536x128 (constantI S_ 32 8#32))) n)

/-- The look-up: the codebook's entry at a position within the codebook, a fill value elsewhere. -/
def taken (c : FVec Ideal S8 .f32) (n : IVec S65536x128 32) : FVec Ideal S65536x128 .f32 :=
  select
    (Host.reduce IntOp.andi
      (andi (cmpi .sge (wrapped n) (broadcastInDim S65536x128x1 ![] bcast_S_S65536x128x1 (constantI S_ 32 0#32)))
        (cmpi .sle (wrapped n) (broadcastInDim S65536x128x1 ![0, 1, 2] bcast_S1x1x1_S65536x128x1_0_1_2
          (broadcastInDim S1x1x1 ![2] bcast_S1_S1x1x1_2 (constantI S1 32 7#32)))))
      (constantI S_ 1 1#1) reducesTo_S65536x128x1_S65536x128_d2 h_S_)
    (Host.gather gather_S8_S65536x128x1_S65536x128_n_0_n_n_0_2_1 c (wrapped n))
    (broadcastInDim S65536x128 ![] bcast_S_S65536x128 (constant S_ .f32 0x7FC00000#32))

/-- The corrected coordinates: the entry, plus the row's mean residual magnitude times the residual's sign. -/
def corrected (y q : FVec Ideal S65536x128 .f32) : FVec Ideal S65536x128 .f32 :=
  addf q (mulf
    (broadcastInDim S65536x128 ![0, 1] bcast_S65536x1_S65536x128_0_1 (broadcastInDim S65536x1 ![0] bcast_S65536_S65536x1_0
      (Host.divf
        (Host.reduceAdd (Host.absf (subf y q)) (constant S_ .f32 0x00000000#32) reducesTo_S65536x128_S65536_d1 h_S_)
        (broadcastInDim S65536 ![] bcast_S_S65536 (constant S_ .f32 0x43000000#32)))))
    (subf
      (mulf (uitofp .f32 (cmpf .oge (subf y q) (broadcastInDim S65536x128 ![] bcast_S_S65536x128 (constant S_ .f32 0x00000000#32))))
        (broadcastInDim S65536x128 ![] bcast_S_S65536x128 (constant S_ .f32 0x40000000#32)))
      (broadcastInDim S65536x128 ![] bcast_S_S65536x128 (constant S_ .f32 0x3F800000#32))))

/-- The corrected coordinates rotated back by `P`, times the rows' norms. -/
def restored (x : FVec Ideal S65536x128 .f32) (P : FVec Ideal S128x128 .f32) (z : FVec Ideal S65536x128 .f32) :
    FVec Ideal S65536x128 .f32 :=
  mulf (Host.dotGeneral dot_S65536x128_S128x128_S65536x128_1_0_0_1_n_n none z P)
    (broadcastInDim S65536x128 ![0, 1] bcast_S65536x1_S65536x128_0_1 (rowNorm x))

/-- What the reference returns of its three arguments. -/
def result (x : FVec Ideal S65536x128 .f32) (P : FVec Ideal S128x128 .f32) (c : FVec Ideal S8 .f32) :
    FVec Ideal S65536x128 .f32 :=
  restored x P (corrected (rotated x P) (taken c (position (distance (rotated x P) c))))

/-- The reference runs to `result` of its arguments, which it leaves as they were. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v31)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  hlo_run
  all_goals first | exact fun _ => ⟨trivial, trivial, trivial⟩ | skip
  simp only [StableHlo.TRef.ofBuf_toBuf]
  simp -implicitDefEqProofs only [StableHlo.TRef.toBuf, StableHlo.TRef.ofBuf, cast_eq]
  rfl

end Cert.Proof.Ref
-- ==== Proof.RefRead.lean ====
module

public import proofs.«01_k».proof.Proof.RefRun
public import proofs.«01_k».proof.Proof.Nearest
public import Idealize.ShloMosaic.Lib.Pointwise
public import Idealize.ShloMosaic.Lib.IdealHost

@[expose] public section

/-! The reference's stages read at one row and one column. -/

set_option maxRecDepth 16384

noncomputable section

namespace Cert.Proof.Ref

open Idealize.ShloMosaic Cert.ReferenceIdeal

variable [Cert.ReferenceIdeal.Facts]

/-- The word of the constant two. -/
theorem ofBits_two : Ideal.ofBits FTy.f32 0x40000000#32 = 2 := by
  simp [Ideal.ofBits, Ideal.ieee]
  rw [← EReal.coe_mul]; norm_num; rfl

/-- The word of the constant 128. -/
theorem ofBits_128 : Ideal.ofBits FTy.f32 0x43000000#32 = 128 := by
  simp [Ideal.ofBits, Ideal.ieee]
  rw [← EReal.coe_mul]; norm_num; rfl

/-- A set bit is the number one. -/
theorem uitofp_true : FloatOps.uitofp (F := Ideal) FTy.f32 (BitVec.ofBool true) = (1 : EReal) := by
  show (((BitVec.ofBool true).toNat : ℝ) : EReal) = 1
  simp

/-- A clear bit is the number zero. -/
theorem uitofp_false : FloatOps.uitofp (F := Ideal) FTy.f32 (BitVec.ofBool false) = (0 : EReal) := by
  show (((BitVec.ofBool false).toNat : ℝ) : EReal) = 0
  simp

/-- The sum of the squares of a row. -/
def sumSq (x : FVec Ideal S65536x128 .f32) (i : Fin 65536) : EReal := ∑ k : Fin 128, x (ix2 i k) * x (ix2 i k)

/-- A row's norm is the root of the sum of its squares. -/
theorem rowNorm_apply (x : FVec Ideal S65536x128 .f32) (i : Fin 65536) :
    rowNorm x (ix2 i 0) = Ideal.sqrt (sumSq x i) := by
  pointwise [rowNorm]
  rfl

/-- A rotated coordinate: the normalised row against a row of `P`. -/
theorem rotated_apply (x : FVec Ideal S65536x128 .f32) (P : FVec Ideal S128x128 .f32) (i : Fin 65536) (j : Fin 128) :
    rotated x P (ix2 i j) = ∑ k : Fin 128, Ideal.div (x (ix2 i k)) (Ideal.sqrt (sumSq x i)) * P (ix2 j k) := by
  have h := rowNorm_apply x i
  generalize hn : rowNorm x = nrm at h
  pointwise [rotated]
  rw [hn]
  simp only [h]

/-- A distance is the magnitude of a difference. -/
theorem distance_apply (y : FVec Ideal S65536x128 .f32) (c : FVec Ideal S8 .f32) (i : Fin 65536) (j : Fin 128) (k : Fin 8) :
    distance y c (ix3 i j k) = eabs (y (ix2 i j) - c (ix1 k)) := by
  pointwise [distance]
  rfl

/-- A corrected coordinate. -/
theorem corrected_apply (y q : FVec Ideal S65536x128 .f32) (i : Fin 65536) (j : Fin 128) :
    corrected y q (ix2 i j) = q (ix2 i j) + Ideal.div (∑ k : Fin 128, eabs (y (ix2 i k) - q (ix2 i k))) 128
      * ((if 0 ≤ y (ix2 i j) - q (ix2 i j) then 1 else 0) * 2 - 1) := by
  pointwise [corrected]
  rw [ofBits_two, ofBits_128]
  have hb : FloatOps.uitofp (F := Ideal) FTy.f32 (BitVec.ofBool (decide (0 ≤ y (ix2 i j) - q (ix2 i j))))
      = if 0 ≤ y (ix2 i j) - q (ix2 i j) then 1 else 0 := by
    split_ifs with h
    · simp only [h, decide_true]; exact uitofp_true
    · simp only [h, decide_false]; exact uitofp_false
  rw [hb]
  rfl

/-- A coordinate of the result. -/
theorem restored_apply (x : FVec Ideal S65536x128 .f32) (P : FVec Ideal S128x128 .f32) (z : FVec Ideal S65536x128 .f32)
    (i : Fin 65536) (j : Fin 128) :
    restored x P z (ix2 i j) = (∑ k : Fin 128, z (ix2 i k) * P (ix2 k j)) * Ideal.sqrt (sumSq x i) := by
  have h := rowNorm_apply x i
  generalize hn : rowNorm x = nrm at h
  pointwise [restored]
  rw [hn]
  simp only [h]

end Cert.Proof.Ref
-- ==== Proof.Search.lean ====
module

public import proofs.«01_k».proof.Proof.RefRun
public import Idealize.ShloMosaic.Lib.Pointwise
public import Idealize.ShloMosaic.Lib.ReduceAll
public import Idealize.ShloMosaic.Lib.ValueIdxCore
public import Idealize.ShloMosaic.PureOps.Ideal.Laws

@[expose] public section

/-! The reference's search and look-up: where one of the eight distances is less than the other seven, its
position is found, and the codebook's entry at that position is taken. -/

set_option maxRecDepth 16384

noncomputable section

namespace Cert.Proof.Ref

open Idealize.ShloMosaic Cert.ReferenceIdeal Cert.ReferenceIdeal.Facts₀ Cert.ReferenceIdeal.Facts

variable [Cert.ReferenceIdeal.Facts]

/-- A pair of a value and a position. -/
abbrev Pair : Type := EReal × BitVec 32

/-- The less of two pairs. -/
abbrev less : Pair → Pair → Pair := reducer_argmin_f32_i32 (F := Idealize.ShloMosaic.Ideal)

theorem less_self (p : Pair) : less p p = p := by
  simp [less, reducer_argmin_f32_i32, Ideal.cmpf_def, Ideal.cmp, Scalar.select]

theorem less_left (p q : Pair) (h : p.1 < q.1) : less p q = p := by
  simp [less, reducer_argmin_f32_i32, Ideal.cmpf_def, Ideal.cmp, Scalar.select, h, h.ne, IntOp.ori, IntOp.andi]

theorem less_right (p q : Pair) (h : p.1 < q.1) : less q p = p := by
  simp [less, reducer_argmin_f32_i32, Ideal.cmpf_def, Ideal.cmp, Scalar.select, not_lt.mpr h.le, h.ne', IntOp.ori, IntOp.andi]

theorem lt_less (p a q : Pair) (ha : p.1 < a.1) (hq : p.1 < q.1) : p.1 < (less a q).1 := by
  simp only [less, reducer_argmin_f32_i32, Scalar.select]
  split_ifs
  · exact ha
  · exact hq

/-- Once at the least pair, a run of `less` stays there. -/
theorem foldl_stay (p : Pair) : ∀ L : List Pair, (∀ q ∈ L, q = p ∨ p.1 < q.1) → L.foldl less p = p
  | [], _ => rfl
  | q :: L, h => by
    have hq : less p q = p := by
      rcases h q (List.mem_cons_self ..) with rfl | hq
      · exact less_self q
      · exact less_left p q hq
    rw [List.foldl_cons, hq]
    exact foldl_stay p L fun q' h' => h q' (List.mem_cons_of_mem _ h')

/-- A run of `less` over a list with a least pair ends at that pair. -/
theorem foldl_least (p : Pair) : ∀ (L : List Pair) (a : Pair), p.1 < a.1 → p ∈ L → (∀ q ∈ L, q = p ∨ p.1 < q.1) →
    L.foldl less a = p
  | [], _, _, hp, _ => nomatch hp
  | q :: L, a, ha, hp, h => by
    have hL : ∀ q' ∈ L, q' = p ∨ p.1 < q'.1 := fun q' h' => h q' (List.mem_cons_of_mem _ h')
    rw [List.foldl_cons]
    rcases h q (List.mem_cons_self ..) with rfl | hq
    · rw [less_right q a ha]
      exact foldl_stay q L hL
    · refine foldl_least p L _ (lt_less p a q ha hq) ?_ hL
      rcases List.mem_cons.1 hp with rfl | hp
      · exact absurd hq (lt_irrefl _)
      · exact hp

/-- The pairs compared for one result: those at the operand's indices that reduce into it. -/
theorem mem_fiber {s t : Shape} {axes : List (Fin s.rank)} {α β : Type} (x : s.Idx → α) (y : s.Idx → β)
    (h : s.ReducesTo axes t) (j : t.Idx) (q : α × β) :
    q ∈ Host.argReduceFiber x y h j ↔ ∃ i, h.drop i = j ∧ (x i, y i) = q := by
  rw [Host.argReduceFiber, List.mem_map]
  constructor
  · rintro ⟨n, hn, rfl⟩
    exact ⟨_, of_decide_eq_true (List.mem_filter.1 hn).2, rfl⟩
  · rintro ⟨i, hi, rfl⟩
    refine ⟨s.rowMajor i, List.mem_filter.2 ⟨List.mem_finRange _, decide_eq_true ?_⟩, ?_⟩
    · rw [Equiv.symm_apply_apply, hi]
    · rw [Equiv.symm_apply_apply]

/-- The word of positive infinity. -/
theorem ofBits_top : Ideal.ofBits FTy.f32 0x7F800000#32 = ⊤ := by
  simp [Ideal.ofBits, Ideal.ieee]

/-- What `position` is, as an array. -/
theorem position_eq (d : FVec Ideal S65536x128x8 .f32) : position d = fun j =>
    (Host.argReduce reducer_argmin_f32_i32 d (iotaInDim S65536x128x8 32 2) (constant S_ .f32 0x7F800000#32 : FVec Ideal S_ .f32)
      (constantI S_ 32 0#32) reducesTo_S65536x128x8_S65536x128_d2 h_S_ j).2 := rfl

/-- Where one distance is less than the seven others, its position is the one found. -/
theorem position_apply (d : FVec Ideal S65536x128x8 .f32) (i : Fin 65536) (j : Fin 128) (n : Fin 8)
    (hf : d (ix3 i j n) < ⊤) (hn : ∀ k, k ≠ n → d (ix3 i j n) < d (ix3 i j k)) :
    position d (ix2 i j) = BitVec.ofNat 32 n.val := by
  have h : ∀ (ix : FVec Ideal S_ .f32) (iy : IVec S_ 32), d (ix3 i j n) < ix (Shape.Idx.first h_S_) →
      (Host.argReduce (reducer_argmin_f32_i32 (F := Ideal)) d (iotaInDim S65536x128x8 32 2) ix iy
        reducesTo_S65536x128x8_S65536x128_d2 h_S_ (ix2 i j)).2 = BitVec.ofNat 32 n.val := by
    intro ix iy hix
    rw [Ideal.argReduce_eq_reduce2, Host.reduce2_eq_foldl_fiber]
    have hdrop : ∀ a b k, Shape.ReducesTo.drop reducesTo_S65536x128x8_S65536x128_d2 (ix3 a b k) = ix2 a b := by
      intro a b k
      funext e
      fin_cases e <;> rfl
    have key := foldl_least (d (ix3 i j n), BitVec.ofNat 32 n.val)
      (Host.argReduceFiber d (iotaInDim S65536x128x8 32 2) reducesTo_S65536x128x8_S65536x128_d2 (ix2 i j))
      (ix (Shape.Idx.first h_S_), iy (Shape.Idx.first h_S_)) hix ?_ ?_
    · exact congrArg Prod.snd key
    · exact (mem_fiber _ _ _ _ _).2 ⟨ix3 i j n, hdrop i j n, rfl⟩
    · intro q hq
      obtain ⟨y, hy, rfl⟩ := (mem_fiber _ _ _ _ _).1 hq
      obtain ⟨a, b, k, rfl⟩ : ∃ a b k, y = ix3 a b k := ⟨y 0, y 1, y 2, eq_ix3 y⟩
      rw [hdrop] at hy
      obtain rfl : a = i := congrFun hy 0
      obtain rfl : b = j := congrFun hy 1
      by_cases hk : k = n
      · subst hk; exact Or.inl rfl
      · exact Or.inr (hn k hk)
  have ht : (constant S_ .f32 0x7F800000#32 : FVec Ideal S_ .f32) (Shape.Idx.first h_S_) = ⊤ := ofBits_top
  have h' := h (constant S_ .f32 0x7F800000#32) (constantI S_ 32 0#32) (lt_of_lt_of_eq hf ht.symm)
  exact (congrFun (position_eq d) (ix2 i j)).trans h'

/-- A position within the codebook is left as it is. -/
theorem wrapped_apply (p : IVec S65536x128 32) (i : Fin 65536) (j : Fin 128) (z : Fin 1) (n : Fin 8)
    (hp : p (ix2 i j) = BitVec.ofNat 32 n.val) : wrapped p (ix3 i j z) = BitVec.ofNat 32 n.val := by
  pointwise [wrapped]
  rw [hp]
  clear hp
  revert n; decide

/-- A selection at an index whose bit is set is the first operand there. -/
theorem select_first {s : Shape} {α : Type} (b : IVec s 1) (x y : s.Idx → α) (i : s.Idx) (h : b i = 1#1) :
    select b x y i = x i := by
  show Scalar.select (b i) (x i) (y i) = x i
  rw [h]; exact if_pos rfl

/-- The look-up at positions within the codebook is the codebook's entry there. -/
theorem taken_apply (c : FVec Ideal S8 .f32) (p : IVec S65536x128 32) (n : Fin 65536 → Fin 128 → Fin 8)
    (hp : ∀ i j, p (ix2 i j) = BitVec.ofNat 32 (n i j).val) (i : Fin 65536) (j : Fin 128) :
    taken c p (ix2 i j) = c (ix1 (n i j)) := by
  have hw : ∀ i j z, wrapped p (ix3 i j z) = BitVec.ofNat 32 (n i j).val := fun i j z => wrapped_apply p i j z _ (hp i j)
  have hg : Host.gather gather_S8_S65536x128x1_S65536x128_n_0_n_n_0_2_1 c (wrapped p) (ix2 i j) = c (ix1 (n i j)) := by
    have h := ValueIdx.gather_take_apply (by decide : 0 < 8) gather_S8_S65536x128x1_S65536x128_n_0_n_n_0_2_1_wf c (wrapped p) (ix2 i j)
    refine h.trans ?_
    have ht : ValueIdx.takeIdx (ix2 i j) = (ix3 i j 0 : S65536x128x1.Idx) := by
      funext e
      fin_cases e <;> rfl
    refine congrArg c ?_
    funext e
    fin_cases e
    refine Fin.ext ?_
    show min (wrapped p (ValueIdx.takeIdx (ix2 i j))).toInt.toNat 7 = (n i j).val
    rw [ht, hw]
    show min (BitVec.ofNat 32 (n i j).val).toInt.toNat 7 = (n i j).val
    generalize n i j = v
    revert v; decide
  have hm : ∀ y, (andi (cmpi .sge (wrapped p) (broadcastInDim S65536x128x1 ![] bcast_S_S65536x128x1 (constantI S_ 32 0#32)))
        (cmpi .sle (wrapped p) (broadcastInDim S65536x128x1 ![0, 1, 2] bcast_S1x1x1_S65536x128x1_0_1_2
          (broadcastInDim S1x1x1 ![2] bcast_S1_S1x1x1_2 (constantI S1 32 7#32))))) y = 1#1 := by
    intro y
    obtain ⟨a, b, z, rfl⟩ : ∃ a b z, y = ix3 a b z := ⟨y 0, y 1, y 2, eq_ix3 y⟩
    have hz := hw a b z
    generalize wrapped p = q at hz
    pointwise
    rw [hz]
    generalize n a b = v
    revert v; decide
  exact (select_first _ _ _ _ (Host.reduce_andi_one _ _ _ _ _ rfl hm)).trans hg

end Cert.Proof.Ref
-- ==== Proof.Assumed.lean ====
module

public import proofs.«01_k».proof.Defs
public import proofs.«01_k».proof.Proof.Nearest
public import Idealize.ShloMosaic.Lib.Pointwise
public import Idealize.ShloMosaic.Lib.ReduceAll
public import Idealize.ShloMosaic.Lib.IdealHost
public import Idealize.ShloMosaic.Lib.IndicatorCount

@[expose] public section

/-! What the precondition says, element by element: the codebook is evenly spaced, the rows are finite, and
every rotated coordinate has one nearest codebook entry. -/

set_option maxRecDepth 16384

noncomputable section

namespace Cert.Proof.Assumed

open Idealize.ShloMosaic Cert.Pre_uniform_and_untied Cert.Pre_uniform_and_untied.Facts

variable [Cert.Pre_uniform_and_untied.Facts]

/-- The sum of the squares of a row. -/
def sumSq (x : FVec Ideal S65536x128 .f32) (i : Fin 65536) : EReal := ∑ k : Fin 128, x (ix2 i k) * x (ix2 i k)

/-- A rotated coordinate: the normalised row against a row of `P`. -/
def rotated (x : FVec Ideal S65536x128 .f32) (P : FVec Ideal S128x128 .f32) (i : Fin 65536) (j : Fin 128) : EReal :=
  ∑ k : Fin 128, Ideal.div (x (ix2 i k)) (Ideal.sqrt (sumSq x i)) * P (ix2 j k)

/-- The precondition's distances. -/
def distance (x : FVec Ideal S65536x128 .f32) (P : FVec Ideal S128x128 .f32) (c : FVec Ideal S8 .f32) : FVec Ideal S65536x128x8 .f32 :=
  Host.absf (subf
    (broadcastInDim S65536x128x8 ![0, 1, 2] bcast_S65536x128x1_S65536x128x8_0_1_2
      (broadcastInDim S65536x128x1 ![0, 1] bcast_S65536x128_S65536x128x1_0_1
        (Host.dotGeneral dot_S65536x128_S128x128_S65536x128_1_0_0_1_n_n none
          (Host.divf x (broadcastInDim S65536x128 ![0, 1] bcast_S65536x1_S65536x128_0_1 (fn_norm x)))
          (transpose S128x128 [1, 0] P transposes_S128x128_S128x128_1_0))))
    (broadcastInDim S65536x128x8 ![0, 1, 2] bcast_S1x1x8_S65536x128x8_0_1_2 (broadcastInDim S1x1x8 ![2] bcast_S8_S1x1x8_2 c)))

/-- The least of eight distances. -/
def least (d : FVec Ideal S65536x128x8 .f32) : FVec Ideal S65536x128 .f32 :=
  Host.reduce FloatOps.minimumf d (constant S_ .f32 0x7F800000#32) reducesTo_S65536x128x8_S65536x128_d2 h_S_

/-- How many of eight distances are the least, as a word. -/
def count (d : FVec Ideal S65536x128x8 .f32) : IVec S65536x128 32 :=
  Host.reduce IntOp.addi
    (extui 32 (cmpf .oeq d (broadcastInDim S65536x128x8 ![0, 1, 2] bcast_S65536x128x1_S65536x128x8_0_1_2
      (broadcastInDim S65536x128x1 ![0, 1] bcast_S65536x128_S65536x128x1_0_1 (least d)))) natLt_1_32)
    (constantI S_ 32 0#32) reducesTo_S65536x128x8_S65536x128_d2 h_S_

/-- The step between the codebook's first two entries. -/
def step (c : FVec Ideal S8 .f32) : FVec Ideal S_ .f32 :=
  subf (shapeCast S_ (extractStridedSlice S1 ![1] c slices_S8_S1_1) shapeCasts_S1_S_)
    (shapeCast S_ (extractStridedSlice S1 ![0] c slices_S8_S1_0) shapeCasts_S1_S_)

/-- Whether each entry is the first plus its position times the step. -/
def even (c : FVec Ideal S8 .f32) : IVec S8 1 :=
  cmpf .oeq c (addf
    (broadcastInDim S8 ![] bcast_S_S8 (shapeCast S_ (extractStridedSlice S1 ![0] c slices_S8_S1_0) shapeCasts_S1_S_))
    (mulf (sitofp .f32 (iotaInDim S8 32 0)) (broadcastInDim S8 ![] bcast_S_S8 (step c))))

/-- Whether the codebook's step is positive and finite, and the codebook evenly spaced. -/
def spaced (c : FVec Ideal S8 .f32) : IVec S_ 1 :=
  andi (andi (cmpf .ogt (step c) (constant S_ .f32 0x00000000#32)) (cmpf .olt (step c) (constant S_ .f32 0x7F800000#32)))
    (Host.reduce IntOp.andi (even c) (constantI S_ 1 1#1) reducesTo_S8_S_d0 h_S_)

/-- The precondition in those parts. -/
theorem fn_eq (x : FVec Ideal S65536x128 .f32) (P : FVec Ideal S128x128 .f32) (c : FVec Ideal S8 .f32) :
    fn (F := Ideal) x P c = andi (andi (broadcastInDim S65536x128 ![] bcast_S_S65536x128 (spaced c))
        (cmpf .olt (Host.absf x) (broadcastInDim S65536x128 ![] bcast_S_S65536x128 (constant S_ .f32 0x7F800000#32))))
      (cmpi .eq (count (distance x P c)) (broadcastInDim S65536x128 ![] bcast_S_S65536x128 (constantI S_ 32 1#32))) := rfl

/-- A distance is the magnitude of a difference. -/
theorem distance_apply (x : FVec Ideal S65536x128 .f32) (P : FVec Ideal S128x128 .f32) (c : FVec Ideal S8 .f32)
    (i : Fin 65536) (j : Fin 128) (k : Fin 8) :
    distance x P c (ix3 i j k) = eabs (rotated x P i j - c (ix1 k)) := by
  pointwise [distance, fn_norm]
  rfl

/-- The least is at most each of the eight, and so is any one equal to it. -/
theorem least_le (d : FVec Ideal S65536x128x8 .f32) (i : Fin 65536) (j : Fin 128) (k : Fin 8) :
    least d (ix2 i j) ≤ d (ix3 i j k) := by
  have h : least d (ix2 i j) = Finset.univ.fold min (Ideal.ofBits FTy.f32 0x7F800000#32) fun k : Fin 8 => d (ix3 i j k) := by
    pointwise [least]
  rw [h]
  exact (Finset.fold_min_le _).2 (Or.inr ⟨k, Finset.mem_univ k, le_rfl⟩)

/-- A compare that came out true. -/
theorem ofBool_decide {p : Prop} [Decidable p] (h : BitVec.ofBool (decide p) = 1#1) : p := by
  by_contra hp
  simp [hp] at h

/-- A count of one: exactly one distance is the least. -/
theorem count_one (d : FVec Ideal S65536x128x8 .f32) (i : Fin 65536) (j : Fin 128) (h : count d (ix2 i j) = 1#32) :
    ∃ n : Fin 8, ∀ k, k ≠ n → d (ix3 i j n) < d (ix3 i j k) := by
  have e : count d (ix2 i j) = Finset.univ.fold IntOp.addi (0#32)
      (fun k : Fin 8 => BitVec.setWidth 32 (BitVec.ofBool (decide (d (ix3 i j k) = least d (ix2 i j))))) := by
    pointwise [count]
  rw [e, IndicatorCount.fold_addi_setWidth_eq_card] at h
  have hc : (Finset.univ.filter fun k : Fin 8 => BitVec.ofBool (decide (d (ix3 i j k) = least d (ix2 i j))) = 1#1).card = 1 := by
    have hle : (Finset.univ.filter fun k : Fin 8 => BitVec.ofBool (decide (d (ix3 i j k) = least d (ix2 i j))) = 1#1).card ≤ 8 :=
      (Finset.card_le_univ _).trans (by simp)
    have := congrArg BitVec.toNat h
    rw [BitVec.toNat_ofNat, Nat.mod_eq_of_lt (by omega)] at this
    exact this
  obtain ⟨n, hn⟩ := Finset.card_eq_one.1 hc
  have hmem : ∀ k : Fin 8, d (ix3 i j k) = least d (ix2 i j) ↔ k = n := by
    intro k
    have hk := Finset.ext_iff.1 hn k
    rw [Finset.mem_filter, Finset.mem_singleton] at hk
    exact ⟨fun he => hk.1 ⟨Finset.mem_univ k, by rw [decide_eq_true he]; rfl⟩, fun he => ofBool_decide (hk.2 he).2⟩
  refine ⟨n, fun k hk => ?_⟩
  rw [(hmem n).2 rfl]
  exact lt_of_le_of_ne (least_le d i j k) fun h => hk ((hmem k).1 h.symm)

/-- The word of positive infinity. -/
theorem ofBits_top : Ideal.ofBits FTy.f32 0x7F800000#32 = ⊤ := by
  simp [Ideal.ofBits, Ideal.ieee]

/-- An evenly spaced codebook, from the bit that says so. -/
theorem spaced_uniform (c : FVec Ideal S8 .f32) (h : spaced c (Shape.Idx.first h_S_) = 1#1) : Uniform fun k => c (ix1 k) := by
  obtain ⟨h1, h2⟩ := IntOp.andi_eq_one.1 h
  obtain ⟨h3, h4⟩ := IntOp.andi_eq_one.1 h1
  have hs : step c (Shape.Idx.first h_S_) = c (ix1 1) - c (ix1 0) := by
    pointwise [step]
  have h5 : Ideal.ofBits FTy.f32 0x00000000#32 < step c (Shape.Idx.first h_S_) := ofBool_decide h3
  have h6 : step c (Shape.Idx.first h_S_) < Ideal.ofBits FTy.f32 0x7F800000#32 := ofBool_decide h4
  rw [hs] at h5 h6
  rw [Ideal.ofBits_zero_f32] at h5
  rw [ofBits_top] at h6
  refine ⟨h5, h6, fun k => ?_⟩
  have h7 := Host.reduce_andi_eq_one _ _ _ _ _ h2 (ix1 k) (Subsingleton.elim _ _)
  pointwise [even, step] at h7
  refine (ofBool_decide h7).trans ?_
  have hk : FloatOps.sitofp (F := Ideal) FTy.f32 (BitVec.ofNat 32 k.val) = ((k.val : ℝ) : EReal) := by
    show (((BitVec.ofNat 32 k.val).toInt : ℝ) : EReal) = _
    have : (BitVec.ofNat 32 k.val).toInt = (k.val : ℤ) := by
      clear h7
      revert k; decide
    rw [this]; norm_cast
  rw [hk]

/-- What the precondition says. -/
theorem of_fn (x : FVec Ideal S65536x128 .f32) (P : FVec Ideal S128x128 .f32) (c : FVec Ideal S8 .f32)
    (h : fn (F := Ideal) x P c = fun _ => 1#1) :
    Uniform (fun k => c (ix1 k)) ∧ (∀ i k, eabs (x (ix2 i k)) < ⊤)
      ∧ ∀ i j, ∃ n, Nearest (fun k => c (ix1 k)) (rotated x P i j) n := by
  rw [fn_eq] at h
  have h1 : ∀ i j, spaced c (Shape.Idx.first h_S_) = 1#1 ∧ eabs (x (ix2 i j)) < ⊤ ∧ count (distance x P c) (ix2 i j) = 1#32 := by
    intro i j
    obtain ⟨ha, hb⟩ := IntOp.andi_eq_one.1 (congrFun h (ix2 i j))
    obtain ⟨hc, hd⟩ := IntOp.andi_eq_one.1 ha
    refine ⟨?_, ?_, ?_⟩
    · pointwise at hc
      rw [← hc]; exact congrArg _ (Subsingleton.elim _ _)
    · have h2 : eabs (x (ix2 i j)) < Ideal.ofBits FTy.f32 0x7F800000#32 := ofBool_decide hd
      rwa [ofBits_top] at h2
    · exact IntOp.cmpi_eq.1 hb
  refine ⟨spaced_uniform c (h1 0 0).1, fun i k => (h1 i k).2.1, fun i j => ?_⟩
  obtain ⟨n, hn⟩ := count_one _ i j (h1 i j).2.2
  refine ⟨n, fun k hk => ?_⟩
  have := hn k hk
  rwa [distance_apply, distance_apply] at this

end Cert.Proof.Assumed
-- ==== Proof.Row.lean ====
module

public import proofs.«01_k».proof.Proof.Nearest

@[expose] public section

/-! One row of finite numbers: dividing it by its norm and multiplying it by the reciprocal root of the sum of its
squares give the same rotated coordinates wherever the first of them is a real number, the row of zeros included. -/

noncomputable section

namespace Cert.Proof

open Idealize.ShloMosaic

/-- A number of finite magnitude is real. -/
theorem real_of_eabs {z : EReal} (h : eabs z < ⊤) : ∃ r : ℝ, z = r := by
  induction z with
  | bot => simp [eabs] at h
  | top => simp [eabs] at h
  | coe r => exact ⟨r, rfl⟩

/-- A finite sum that is real has real terms. -/
theorem terms_of_sum {ι : Type} (s : Finset ι) (f : ι → EReal) (hb : ∑ k ∈ s, f k ≠ ⊥) (ht : ∑ k ∈ s, f k ≠ ⊤) :
    ∀ k ∈ s, f k ≠ ⊥ ∧ f k ≠ ⊤ := by
  classical
  induction s using Finset.induction_on with
  | empty => intro k hk; simp at hk
  | insert a s ha ih =>
    rw [Finset.sum_insert ha] at hb ht
    rw [Ne, EReal.add_eq_bot_iff, not_or] at hb
    have h2 : f a ≠ ⊤ ∧ ∑ k ∈ s, f k ≠ ⊤ := by
      constructor
      · intro h; rw [h] at ht; exact ht (EReal.top_add_of_ne_bot hb.2)
      · intro h; rw [h] at ht; exact ht (EReal.add_top_of_ne_bot hb.1)
    intro k hk
    rcases Finset.mem_insert.1 hk with rfl | hk
    · exact ⟨hb.1, h2.1⟩
    · exact ih hb.2 h2.2 k hk

/-- The sum of the squares of a finite row is a real number at least zero, and zero only for the row of zeros. -/
theorem row_sumSq {n : ℕ} (f : Fin n → EReal) (hf : ∀ k, eabs (f k) < ⊤) :
    ∃ s : ℝ, 0 ≤ s ∧ ∑ k, f k * f k = s ∧ (s = 0 → ∀ k, f k = 0) := by
  choose g hg using fun k => real_of_eabs (hf k)
  refine ⟨∑ k, g k * g k, Finset.sum_nonneg fun k _ => mul_self_nonneg _, ?_, fun h k => ?_⟩
  · rw [← sum_coe]
    exact Finset.sum_congr rfl fun k _ => by rw [hg k, EReal.coe_mul]
  · have := (Finset.sum_eq_zero_iff_of_nonneg fun k _ => mul_self_nonneg (g k)).1 h k (Finset.mem_univ k)
    rw [hg k, mul_self_eq_zero.1 this]
    rfl

/-- The two ways to normalise and rotate a finite row agree where the first gives a real number. -/
theorem row_rotated {n : ℕ} (f p : Fin n → EReal) (hf : ∀ k, eabs (f k) < ⊤) (r : ℝ)
    (hr : ∑ k, Ideal.div (f k) (Ideal.sqrt (∑ k, f k * f k)) * p k = r) :
    ∑ k, f k * Ideal.rsqrt (∑ k, f k * f k) * p k = ∑ k, Ideal.div (f k) (Ideal.sqrt (∑ k, f k * f k)) * p k := by
  obtain ⟨s, hs, e, hz⟩ := row_sumSq f hf
  rw [e] at hr ⊢
  rcases hs.eq_or_lt with h0 | h0
  · have hf0 := hz h0.symm
    have hd : ∀ k, Ideal.div (f k) (Ideal.sqrt (s : EReal)) = ⊥ := by
      intro k
      rw [hf0 k, ← h0, Ideal.sqrt_coe]
      simp [Ideal.div]
    have hp : ∀ k, p k = 0 := by
      intro k
      have h1 := terms_of_sum Finset.univ _ (by rw [hr]; exact EReal.coe_ne_bot r) (by rw [hr]; exact EReal.coe_ne_top r) k (Finset.mem_univ k)
      rw [hd k] at h1
      rcases lt_trichotomy (p k) 0 with h | h | h
      · exact absurd (EReal.bot_mul_of_neg h) h1.2
      · exact h
      · exact absurd (EReal.bot_mul_of_pos h) h1.1
    simp [hp]
  · refine Finset.sum_congr rfl fun k _ => ?_
    have hq : Real.sqrt s ≠ 0 := (Real.sqrt_pos.2 h0).ne'
    rw [Ideal.rsqrt_coe, Ideal.sqrt_coe, if_neg hs.not_gt, if_neg hs.not_gt, if_neg h0.ne', Ideal.div_coe hq, one_div]

/-- The sum of a finite row's squares times its reciprocal root is the row's norm. -/
theorem row_norm {n : ℕ} (f : Fin n → EReal) (hf : ∀ k, eabs (f k) < ⊤) :
    (∑ k, f k * f k) * Ideal.rsqrt (∑ k, f k * f k) = Ideal.sqrt (∑ k, f k * f k) := by
  obtain ⟨s, hs, e, hz⟩ := row_sumSq f hf
  rw [e, Ideal.rsqrt_coe, Ideal.sqrt_coe, if_neg hs.not_gt, if_neg hs.not_gt]
  rcases hs.eq_or_lt with h0 | h0
  · rw [if_pos h0.symm, ← h0]
    simp
  · have hq : Real.sqrt s ≠ 0 := (Real.sqrt_pos.2 h0).ne'
    rw [if_neg h0.ne', ← EReal.coe_mul]
    congr 1
    field_simp
    exact (Real.sq_sqrt hs).symm

end Cert.Proof
-- ==== Proof.Equation.lean ====
module

public import proofs.«01_k».proof.Proof.Array
public import proofs.«01_k».proof.Proof.RefRead
public import proofs.«01_k».proof.Proof.Search
public import proofs.«01_k».proof.Proof.Assumed
public import proofs.«01_k».proof.Proof.Row

@[expose] public section

/-! The equation: under the precondition the array the kernel leaves is the one the reference returns. -/

set_option maxRecDepth 16384

noncomputable section

namespace Cert.Proof

open Idealize.ShloMosaic Cert.ReferenceIdeal

variable [Cert.ReferenceIdeal.Facts] [Cert.Pre_uniform_and_untied.Facts]

/-- A codebook entry's position, found by the reference where one entry is nearest. -/
theorem position_nearest (y : FVec Ideal S65536x128 .f32) (c : FVec Ideal S8 .f32) (i : Fin 65536) (j : Fin 128) (n : Fin 8)
    (h : Nearest (fun k => c (ix1 k)) (y (ix2 i j)) n) :
    Ref.position (Ref.distance y c) (ix2 i j) = BitVec.ofNat 32 n.val := by
  have hn : ∀ k, k ≠ n → Ref.distance y c (ix3 i j n) < Ref.distance y c (ix3 i j k) := by
    intro k hk
    rw [Ref.distance_apply, Ref.distance_apply]
    exact h k hk
  obtain ⟨k, hk⟩ : ∃ k : Fin 8, k ≠ n := exists_ne n
  exact Ref.position_apply _ i j n ((hn k hk).trans_le le_top) hn

/-- What the reference returns at a row and a column, where `n` names the nearest entries. -/
theorem ref_apply (x : FVec Ideal S65536x128 .f32) (P : FVec Ideal S128x128 .f32) (c : FVec Ideal S8 .f32)
    (n : Fin 65536 → Fin 128 → Fin 8) (hn : ∀ i j, Nearest (fun k => c (ix1 k)) (Assumed.rotated x P i j) (n i j))
    (i : Fin 65536) (j : Fin 128) :
    Ref.result x P c (ix2 i j)
      = (∑ k : Fin 128, searchQuant (fun k => c (ix1 k)) (Assumed.rotated x P i) (n i) k * P (ix2 k j)) * Ideal.sqrt (Ref.sumSq x i) := by
  have hy : ∀ i j, Ref.rotated x P (ix2 i j) = Assumed.rotated x P i j := fun i j => Ref.rotated_apply x P i j
  have hq : ∀ i j, Ref.taken c (Ref.position (Ref.distance (Ref.rotated x P) c)) (ix2 i j) = c (ix1 (n i j)) :=
    Ref.taken_apply c _ n fun i j => position_nearest _ c i j _ (by rw [hy]; exact hn i j)
  rw [Ref.result, Ref.restored_apply]
  simp only [Ref.corrected_apply, hy, hq]
  rfl

/-- Under the precondition the reference returns what the kernel leaves. -/
theorem equation (x : FVec Ideal S65536x128 .f32) (P : FVec Ideal S128x128 .f32) (c : FVec Ideal S8 .f32)
    (h : Cert.Pre_uniform_and_untied.fn (F := Ideal) x P c = fun _ => 1#1) :
    Ref.result x P c = fun y => Block.result x P (fun k => c (ix1 k)) (y 0) (y 1) := by
  obtain ⟨hc, hx, hN⟩ := Assumed.of_fn x P c h
  choose n hn using hN
  funext y
  obtain ⟨i, j, rfl⟩ : ∃ (i : Fin 65536) (j : Fin 128), y = ix2 i j := ⟨y 0, y 1, eq_ix2 y⟩
  rw [ref_apply x P c n hn i j]
  have hrot : Block.rowRotated x P i = Assumed.rotated x P i := by
    funext j
    obtain ⟨r, hr⟩ := (hn i j).real hc
    exact row_rotated (fun k => x (ix2 i k)) (fun k => P (ix2 j k)) (hx i) r hr
  have hnorm : Block.rowSumSq x i * Ideal.rsqrt (Block.rowSumSq x i) = Ideal.sqrt (Ref.sumSq x i) :=
    row_norm (fun k => x (ix2 i k)) (hx i)
  show _ = Block.result x P (fun k => c (ix1 k)) i j
  rw [Block.result, hnorm, hrot]
  simp only [roundQuant_eq_searchQuant hc _ _ (hn i)]

end Cert.Proof
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_uniform_and_untied
public import proofs.«01_k».proof.Proof.Equation
public import Idealize.ShloMosaic.Adequacy
public import Idealize.ShloMosaic.Init
public import Idealize.ShloMosaic.Lib.Claim
public import Idealize.ShloMosaic.Lib.Quiescent

@[expose] public section

/-! The claim, assembled: the frames of the kernel as compiled, of the kernel over the extended reals and of the
reference, and the equality of the two results under the precondition. -/

set_option maxRecDepth 16384

noncomputable section

namespace Cert.Proof

open Idealize.ShloMosaic Idealize.SL.Sem

/-- The reference ends, leaves its arguments as they were, and has no semaphore to leave raised. -/
theorem frame_ref [Cert.ReferenceIdeal.Facts] : Cert.quiescent_ReferenceIdeal := by
  intro m g _
  hlo_run
  · exact fun _ => ⟨trivial, trivial, trivial⟩
  · exact Idealize.ShloMosaic.sem_eq_zero_of_no_sems (by decide) _

/-- Under the precondition the kernel's result is the reference's. -/
theorem alg [Cert.KernelIdeal.Facts] [Cert.ReferenceIdeal.Facts] [Cert.Pre_uniform_and_untied.Facts] :
    Cert.algebraic_KernelIdeal_ReferenceIdeal_pre_uniform_and_untied := by
  pair_intro
  rotate_left 2
  · exact fun c => (fun y => Block.result (Block.rows m c) (Block.rotation m c) (Block.book m c) (y 0) (y 1) :
      FVec Ideal Cert.KernelIdeal.S65536x128 .f32)
  · refine (θ_run Cert.KernelIdeal.defs _ _).mono ?_ (Cert.KernelIdeal.Value.run_blocks m g)
    intro r h c
    obtain ⟨h₁, h₂⟩ := h c
    exact ⟨h₁.trans (Block.array m c), h₂⟩
  · refine (θ_run Cert.ReferenceIdeal.defs _ _).mono ?_ (Ref.run m' g')
    intro r h c
    obtain ⟨h₁, h₂⟩ := h c
    obtain ⟨a₀, a₁, a₂⟩ := hagree c
    refine ⟨h₁.trans ?_, h₂⟩
    rw [a₀, a₁, a₂]
    exact equation _ _ _ (hpre c)

/-- Every part of the claim. -/
theorem claim : Cert.Claim :=
  ⟨Cert.Kernel.Gen.facts, Cert.KernelIdeal.Gen.facts, Cert.ReferenceIdeal.Gen.facts, Cert.Pre_uniform_and_untied.Gen.facts,
    fun m ρ _ => Cert.Kernel.Gen.frame m ρ, fun m ρ _ => Cert.KernelIdeal.Gen.frame m ρ,
    fun m ρ _ => Cert.KernelIdeal.Gen.frame m ρ, frame_ref, fun m g _ => frame_ref m g trivial, trivial, alg⟩

end Cert.Proof

end
